-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S8 : Shape := ⟨1, ![8]⟩
abbrev S1 : Shape := ⟨1, ![1]⟩
abbrev S_ : Shape := ⟨0, ![]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S512x4096, .f32⟩
  | .local _ .vmem, ⟨1, _⟩ => ⟨S512x4096, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S4096x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .ne arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Block.lean ====
/-
  WHAT ONE BLOCK OF 512 ROWS COMPUTES, over exact arithmetic: `rows x w b`, a row of `x` times a column of `w` plus the
  column's bias. The kernel has two bodies for it: one matrix product over all 4096 positions (`pay1_eq`), and eight
  products over 512 positions each, added one after the other to the bias (`chunks_eq`).
-/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Linear

open Cert.KernelIdeal Cert.KernelIdeal.Gen Cert.KernelIdeal.Value
open Idealize.ShloMosaic Idealize.ShloMosaic.TcCoe Idealize.SL.Sem

/-- The whole layer: `x · w + b`, entry by entry. -/
def linear (x : Vec Ideal S4096x4096 .f32) (w : Vec Ideal S4096x1024 .f32) (b : Vec Ideal S1024 .f32) : Vec Ideal S4096x1024 .f32 :=
  fun i => (∑ k : Fin 4096, x (ix2 (i 0) k) * w (ix2 k (i 1))) + b (ix1 (i 1))

/-- One block of 512 rows of the layer, with the bias as a one-row matrix. -/
def rows (x : Vec Ideal S512x4096 .f32) (w : Vec Ideal S4096x1024 .f32) (b : Vec Ideal S1x1024 .f32) : Vec Ideal S512x1024 .f32 :=
  fun j => (∑ k : Fin 4096, x (ix2 (j 0) k) * w (ix2 k (j 1))) + b (ix2 (0 : Fin 1) (j 1))

/-- A row of a block is a row of the layer, when the block's row of `x` is that row of the whole `x` and the two biases
    agree at the column. -/
theorem rows_eq_linear (x : Vec Ideal S512x4096 .f32) (w : Vec Ideal S4096x1024 .f32) (b : Vec Ideal S1x1024 .f32)
    (X : Vec Ideal S4096x4096 .f32) (B : Vec Ideal S1024 .f32) (r : Fin 512) (R : Fin 4096) (l : Fin 1024)
    (hx : ∀ k : Fin 4096, x (ix2 r k) = X (ix2 R k)) (hb : b (ix2 (0 : Fin 1) l) = B (ix1 l)) :
    rows x w b (ix2 r l) = linear X w B (ix2 R l) :=
  congrArg₂ (· + ·) (Finset.sum_congr rfl fun k _ => congrArg (· * w (ix2 k l)) (hx k)) hb

/-- The body of every block but the first, one product over all 4096 positions plus the bias, computes `rows`. -/
theorem pay1_eq (x : Vec Ideal S512x4096 .f32) (w : Vec Ideal S4096x1024 .f32) (b : Vec Ideal S1x1024 .f32) :
    k0_pay1 x w b = rows x w b := by
  funext j
  pointwise [k0_pay1, rows]

/-- The body of the first block computes `rows` too: the bias, then the eight products of a 512-column chunk `X s` of `x`
    with the 512-row chunk `W s` of `w` added to it in order. -/
theorem chunks_eq (x : Vec Ideal S512x4096 .f32) (w : Vec Ideal S4096x1024 .f32) (b : Vec Ideal S1x1024 .f32)
    (X : Fin 8 → Vec Ideal S512x512 .f32) (W : Fin 8 → Vec Ideal S512x1024 .f32)
    (hX : ∀ (s : Fin 8) (r : Fin 512) (k : Fin 512), X s (ix2 r k) = x (ix2 r ⟨s.val * 512 + k.val, by omega⟩))
    (hW : ∀ (s : Fin 8) (k : Fin 512) (l : Fin 1024), W s (ix2 k l) = w (ix2 ⟨s.val * 512 + k.val, by omega⟩ l)) :
    k0_pay4 (k0_pay3 (k0_pay2 b (X 0) (W 0)) (X 1) (W 1) (X 2) (W 2) (X 3) (W 3) (X 4) (W 4))
      (X 5) (W 5) (X 6) (W 6) (X 7) (W 7) = rows x w b := by
  funext j
  have hsum : (∑ k : Fin 4096, x (ix2 (j 0) k) * w (ix2 k (j 1))) =
      ∑ s : Fin 8, ∑ k : Fin 512, X s (ix2 (j 0) k) * W s (ix2 k (j 1)) := by
    rw [← Fin.sum_mul_add_fin 8 512 (fun k : Fin 4096 => x (ix2 (j 0) k) * w (ix2 k (j 1)))]
    refine Finset.sum_congr rfl fun s _ => Finset.sum_congr rfl fun k _ => ?_
    exact (congrArg₂ (· * ·) (hX s (j 0) k) (hW s k (j 1))).symm
  pointwise [k0_pay2, k0_pay3, k0_pay4, rows]
  rw [hsum, Fin.sum_univ_eight, add_comm (b _)]
  ac_rfl

end Cert.KernelIdeal.Linear

end
-- ==== Proof.Weights.lean ====
/-
  WHAT THE WEIGHT BUFFER HOLDS. At the first grid point eight copies of 512 rows each land in the kernel's scratch buffer;
  together they are the whole weight matrix (`canon_landed`), and no later point changes the buffer: after every point it
  is the weight matrix (`scratch_eq`).
-/
module

public import proofs.«01_k».proof.Proof.Block

@[expose] public section

set_option maxRecDepth 16384

noncomputable section

namespace Cert.KernelIdeal.Linear

open Cert.KernelIdeal Cert.KernelIdeal.Gen Cert.KernelIdeal.Value
open Idealize.ShloMosaic Idealize.ShloMosaic.TcCoe Idealize.SL.Sem

/-- The eight pieces of 512 rows of `v` that the copies write, the last copy first. -/
def landed (v : Vec Ideal S4096x1024 .f32) : List (View.Piece (Elt Ideal) S4096x1024 .f32) :=
  [⟨Rect.unit ![3584, 0] ![512, 1024] inb_S4096x1024_S512x1024_3584_0, ReadAs.same.apply (View.read (Elt Ideal) ((View.whole main_arg1).slice (Rect.unit ![3584, 0] ![512, 1024] inb_S4096x1024_S512x1024_3584_0)) v)⟩,
   ⟨Rect.unit ![3072, 0] ![512, 1024] inb_S4096x1024_S512x1024_3072_0, ReadAs.same.apply (View.read (Elt Ideal) ((View.whole main_arg1).slice (Rect.unit ![3072, 0] ![512, 1024] inb_S4096x1024_S512x1024_3072_0)) v)⟩,
   ⟨Rect.unit ![2560, 0] ![512, 1024] inb_S4096x1024_S512x1024_2560_0, ReadAs.same.apply (View.read (Elt Ideal) ((View.whole main_arg1).slice (Rect.unit ![2560, 0] ![512, 1024] inb_S4096x1024_S512x1024_2560_0)) v)⟩,
   ⟨Rect.unit ![2048, 0] ![512, 1024] inb_S4096x1024_S512x1024_2048_0, ReadAs.same.apply (View.read (Elt Ideal) ((View.whole main_arg1).slice (Rect.unit ![2048, 0] ![512, 1024] inb_S4096x1024_S512x1024_2048_0)) v)⟩,
   ⟨Rect.unit ![1536, 0] ![512, 1024] inb_S4096x1024_S512x1024_1536_0, ReadAs.same.apply (View.read (Elt Ideal) ((View.whole main_arg1).slice (Rect.unit ![1536, 0] ![512, 1024] inb_S4096x1024_S512x1024_1536_0)) v)⟩,
   ⟨Rect.unit ![1024, 0] ![512, 1024] inb_S4096x1024_S512x1024_1024_0, ReadAs.same.apply (View.read (Elt Ideal) ((View.whole main_arg1).slice (Rect.unit ![1024, 0] ![512, 1024] inb_S4096x1024_S512x1024_1024_0)) v)⟩,
   ⟨Rect.unit ![512, 0] ![512, 1024] inb_S4096x1024_S512x1024_512_0, ReadAs.same.apply (View.read (Elt Ideal) ((View.whole main_arg1).slice (Rect.unit ![512, 0] ![512, 1024] inb_S4096x1024_S512x1024_512_0)) v)⟩,
   ⟨Rect.unit ![0, 0] ![512, 1024] inb_S4096x1024_S512x1024_0_0, ReadAs.same.apply (View.read (Elt Ideal) ((View.whole main_arg1).slice (Rect.unit ![0, 0] ![512, 1024] inb_S4096x1024_S512x1024_0_0)) v)⟩]

/-- The eight pieces together are `v`. -/
theorem canon_landed (v : Vec Ideal S4096x1024 .f32) : View.canon (landed v) = v := by
  funext j
  unfold landed
  canon_tiles x h
  all_goals
    refine View.ld_unit_apply_of _ _ _ _ _ _ fun a => ?_
    fin_cases a
    · simpa using h0
    · simpa using h1

/-- So a load from the buffer after the eight copies reads `v` through the load's box. -/
theorem readCov_landed (v : Vec Ideal S4096x1024 .f32) (r : Rect S4096x1024) :
    View.readCov (s := S4096x1024) (e := .f32) (View.whole cc0_scratch0) (landed v) r.toLoadRect = View.ld v r := by
  rw [View.readCov_eq_canon', canon_landed]

variable (m : (ℓ : Loc nD τ sig) → Buf (Elt Ideal) ℓ)

/-- After the first point the scratch buffer is the weight matrix. -/
theorem scratch_first (c : Dev nD) (t : Fin cfg0.N) (h0 : t.val % 8 = 0) (h1 : ¬1 ≤ t.val) :
   (outsAt0 m c t.val t.isLt).2 = V m c main_arg1 := by
  rw [outsAt0_A m c t h0 h1]
  frame_out
  exact canon_landed _

/-- A later point leaves the scratch buffer as it was. -/
theorem scratch_later (c : Dev nD) (t : Fin cfg0.N) (h0 : ¬t.val % 8 = 0) (h1 : 1 ≤ t.val) :
   (outsAt0 m c t.val t.isLt).2 = (outsAt0 m c (t.val - 1) (Nat.lt_of_le_of_lt (Nat.sub_le _ _) t.isLt)).2 := by
  rw [outsAt0_B m c t h0 h1]
  rfl

/-- After every point the scratch buffer is the weight matrix. -/
theorem scratch_eq (c : Dev nD) : ∀ (n : ℕ) (hn : n < cfg0.N), (outsAt0 m c n hn).2 = V m c main_arg1
  | 0, hn => scratch_first m c ⟨0, hn⟩ rfl (by show ¬ 1 ≤ 0; omega)
  | n + 1, hn => by
    have h8 : n + 1 < 8 := hn
    exact (scratch_later m c ⟨n + 1, hn⟩ (by show ¬ (n + 1) % 8 = 0; omega) (by show 1 ≤ n + 1; omega)).trans (scratch_eq c n _)

end Cert.KernelIdeal.Linear

end
-- ==== Proof.Output.lean ====
/-
  WHAT EACH GRID POINT LEAVES IN ITS OUTPUT BLOCK: `rows` of its block of `x`, the weight matrix and the bias, at the first
  point (`out_first`) and at every later one (`out_later`).
-/
module

public import proofs.«01_k».proof.Proof.Weights

@[expose] public section

set_option maxRecDepth 16384

noncomputable section

namespace Cert.KernelIdeal.Linear

open Cert.KernelIdeal Cert.KernelIdeal.Gen Cert.KernelIdeal.Value
open Idealize.ShloMosaic Idealize.ShloMosaic.TcCoe Idealize.SL.Sem

/-- The first point's computation over the landed pieces of `v`: `rows x v b`. -/
theorem first_block (x : Vec Ideal S512x4096 .f32) (v : Vec Ideal S4096x1024 .f32) (b : Vec Ideal S1x1024 .f32) :
    k0_pay4 (k0_pay3 (k0_pay2 b
      (View.ld x (Rect.unit ![0, 0] ![512, 512] inb_S512x4096_S512x512_0_0))
      (View.readCov (s := S4096x1024) (e := .f32) (View.whole cc0_scratch0) (landed v) (Rect.unit (s := S4096x1024) ![0, 0] ![512, 1024] inb_S4096x1024_S512x1024_0_0).toLoadRect))
      (View.ld x (Rect.unit ![0, 512] ![512, 512] inb_S512x4096_S512x512_0_512))
      (View.readCov (s := S4096x1024) (e := .f32) (View.whole cc0_scratch0) (landed v) (Rect.unit (s := S4096x1024) ![512, 0] ![512, 1024] inb_S4096x1024_S512x1024_512_0).toLoadRect)
      (View.ld x (Rect.unit ![0, 1024] ![512, 512] inb_S512x4096_S512x512_0_1024))
      (View.readCov (s := S4096x1024) (e := .f32) (View.whole cc0_scratch0) (landed v) (Rect.unit (s := S4096x1024) ![1024, 0] ![512, 1024] inb_S4096x1024_S512x1024_1024_0).toLoadRect)
      (View.ld x (Rect.unit ![0, 1536] ![512, 512] inb_S512x4096_S512x512_0_1536))
      (View.readCov (s := S4096x1024) (e := .f32) (View.whole cc0_scratch0) (landed v) (Rect.unit (s := S4096x1024) ![1536, 0] ![512, 1024] inb_S4096x1024_S512x1024_1536_0).toLoadRect)
      (View.ld x (Rect.unit ![0, 2048] ![512, 512] inb_S512x4096_S512x512_0_2048))
      (View.readCov (s := S4096x1024) (e := .f32) (View.whole cc0_scratch0) (landed v) (Rect.unit (s := S4096x1024) ![2048, 0] ![512, 1024] inb_S4096x1024_S512x1024_2048_0).toLoadRect))
      (View.ld x (Rect.unit ![0, 2560] ![512, 512] inb_S512x4096_S512x512_0_2560))
      (View.readCov (s := S4096x1024) (e := .f32) (View.whole cc0_scratch0) (landed v) (Rect.unit (s := S4096x1024) ![2560, 0] ![512, 1024] inb_S4096x1024_S512x1024_2560_0).toLoadRect)
      (View.ld x (Rect.unit ![0, 3072] ![512, 512] inb_S512x4096_S512x512_0_3072))
      (View.readCov (s := S4096x1024) (e := .f32) (View.whole cc0_scratch0) (landed v) (Rect.unit (s := S4096x1024) ![3072, 0] ![512, 1024] inb_S4096x1024_S512x1024_3072_0).toLoadRect)
      (View.ld x (Rect.unit ![0, 3584] ![512, 512] inb_S512x4096_S512x512_0_3584))
      (View.readCov (s := S4096x1024) (e := .f32) (View.whole cc0_scratch0) (landed v) (Rect.unit (s := S4096x1024) ![3584, 0] ![512, 1024] inb_S4096x1024_S512x1024_3584_0).toLoadRect) = rows x v b := by
  simp only [readCov_landed]
  exact chunks_eq x v b
    ![View.ld x (Rect.unit ![0, 0] ![512, 512] inb_S512x4096_S512x512_0_0),
      View.ld x (Rect.unit ![0, 512] ![512, 512] inb_S512x4096_S512x512_0_512),
      View.ld x (Rect.unit ![0, 1024] ![512, 512] inb_S512x4096_S512x512_0_1024),
      View.ld x (Rect.unit ![0, 1536] ![512, 512] inb_S512x4096_S512x512_0_1536),
      View.ld x (Rect.unit ![0, 2048] ![512, 512] inb_S512x4096_S512x512_0_2048),
      View.ld x (Rect.unit ![0, 2560] ![512, 512] inb_S512x4096_S512x512_0_2560),
      View.ld x (Rect.unit ![0, 3072] ![512, 512] inb_S512x4096_S512x512_0_3072),
      View.ld x (Rect.unit ![0, 3584] ![512, 512] inb_S512x4096_S512x512_0_3584)]
    ![View.ld v (Rect.unit ![0, 0] ![512, 1024] inb_S4096x1024_S512x1024_0_0),
      View.ld v (Rect.unit ![512, 0] ![512, 1024] inb_S4096x1024_S512x1024_512_0),
      View.ld v (Rect.unit ![1024, 0] ![512, 1024] inb_S4096x1024_S512x1024_1024_0),
      View.ld v (Rect.unit ![1536, 0] ![512, 1024] inb_S4096x1024_S512x1024_1536_0),
      View.ld v (Rect.unit ![2048, 0] ![512, 1024] inb_S4096x1024_S512x1024_2048_0),
      View.ld v (Rect.unit ![2560, 0] ![512, 1024] inb_S4096x1024_S512x1024_2560_0),
      View.ld v (Rect.unit ![3072, 0] ![512, 1024] inb_S4096x1024_S512x1024_3072_0),
      View.ld v (Rect.unit ![3584, 0] ![512, 1024] inb_S4096x1024_S512x1024_3584_0)]
    (fun s r k => by
      fin_cases s <;>
      exact View.ld_unit_apply_of _ _ _ _ _ _ fun a => by
        fin_cases a
        · simp
        · simp)
    (fun s k l => by
      fin_cases s <;>
      exact View.ld_unit_apply_of _ _ _ _ _ _ fun a => by
        fin_cases a
        · simp
        · simp)

variable (m : (ℓ : Loc nD τ sig) → Buf (Elt Ideal) ℓ)

/-- The output block of the first point. -/
theorem out_first (c : Dev nD) (t : Fin cfg0.N) (h0 : t.val % 8 = 0) (h1 : ¬1 ≤ t.val) :
   (outsAt0 m c t.val t.isLt).1 = rows (iblk m c 0 t) (V m c main_arg1) (iblk m c 1 t) := by
  rw [outsAt0_A m c t h0 h1]
  frame_out
  exact first_block (iblk m c 0 t) (V m c main_arg1) (iblk m c 1 t)

/-- The output block of a later point, over the weights found in the scratch buffer. -/
theorem out_later (c : Dev nD) (t : Fin cfg0.N) (h0 : ¬t.val % 8 = 0) (h1 : 1 ≤ t.val) :
   (outsAt0 m c t.val t.isLt).1 = rows (iblk m c 0 t) (V m c main_arg1) (iblk m c 1 t) := by
  have hs := scratch_eq m c (t.val - 1) (Nat.lt_of_le_of_lt (Nat.sub_le _ _) t.isLt)
  rw [outsAt0_B m c t h0 h1]
  frame_out
  rw [hs, pay1_eq]
  exact congrArg (fun v => rows _ v _) (Memref.IsWhole.read_unread (Memref.isWhole_whole cc0_scratch0) _)

/-- The output block of every point. -/
theorem block_eq (c : Dev nD) (t : Fin cfg0.N) :
    (outsAt0 m c t.val t.isLt).1 = rows (iblk m c 0 t) (V m c main_arg1) (iblk m c 1 t) := by
  have h8 : t.val < 8 := t.isLt
  by_cases h : t.val % 8 = 0
  · exact out_first m c t h (by omega)
  · exact out_later m c t h (by omega)

end Cert.KernelIdeal.Linear

end
-- ==== Proof.Result.lean ====
/-
  WHAT THE RESULT ARRAY HOLDS after the kernel's run: `linear` of the three arguments (`final`). Each of the eight points
  writes its own 512 rows; its input block is the same rows of the first argument (`x_block`), and the bias it reads is the
  third argument laid out as one row (`b_block`).
-/
module

public import proofs.«01_k».proof.Proof.Output
public import Idealize.ShloMosaic.Lib.Claim

@[expose] public section

set_option maxRecDepth 16384

noncomputable section

namespace Cert.KernelIdeal.Linear

open Cert.KernelIdeal Cert.KernelIdeal.Gen Cert.KernelIdeal.Value
open Idealize.ShloMosaic Idealize.ShloMosaic.TcCoe Idealize.SL.Sem
open Idealize.ShloMosaic.Pipeline (Dat)

variable (m : (ℓ : Loc nD τ sig) → Buf (Elt Ideal) ℓ)

/-- Which block each window stages at point `t`: rows `512 t …` of the input and of the result, the whole bias. -/
theorem idx : ∀ t : Fin cfg0.N, win0_0.index t = ![t.val, 0] ∧ win0_1.index t = ![0, 0] ∧ win0_2.index t = ![t.val, 0] := by
  decide +kernel

/-- Row `r` of the input block at point `t` is row `512 t + r` of the first argument. -/
theorem x_block (c : Dev nD) (t : Fin cfg0.N) (r : Fin 512) (k : Fin 4096) (h : t.val * 512 + r.val < 4096) :
    iblk m c 0 t (ix2 r k) = m ((c : Thread nD τ).loc main_arg0) (ix2 ⟨t.val * 512 + r.val, h⟩ k) := by
  blk_simp [iblk]
  entry_read
  refine congrArg _ ?_
  blk_ext [idx t]

/-- The bias block at every point is the third argument. -/
theorem b_block (c : Dev nD) (t : Fin cfg0.N) (l : Fin 1024) :
    iblk m c 1 t (ix2 (0 : Fin 1) l) = m ((c : Thread nD τ).loc main_arg2) (ix1 l) := by
  blk_simp [iblk]
  entry_read
  have hi : (win0_1.blk t).view.emb (ix2 (0 : Fin 1) l) = ix2 (0 : Fin 1) l := by blk_ext [idx t]
  rw [hi]
  pointwise

/-- The result array after the run is the layer of the three arguments. -/
theorem final (c : Dev nD) :
    (dats m 0 c).arrAt 2 cfg0.N = linear (m ((c : Thread nD τ).loc main_arg0)) (m ((c : Thread nD τ).loc main_arg1))
      (m ((c : Thread nD τ).loc main_arg2)) := by
  refine (dats m 0 c).arrAt_eq_of_covers 2 _ (by decide +kernel) fun t _ y => ?_
  blk_simp
  rw [after0_2, block_eq, V_main_arg1]
  have h8 : t.val < 8 := t.isLt
  have hr : (y 0).val < 512 := (y 0).isLt
  have h : t.val * 512 + (y 0).val < 4096 := by omega
  have hi : (win0_2.blk t).view.emb y = ix2 ⟨t.val * 512 + (y 0).val, h⟩ (y 1) := by blk_ext [idx t]
  have hy : y = ix2 (y 0) (y 1) := by blk_ext
  rw [hi]
  refine (congrArg _ hy).trans ?_
  exact rows_eq_linear _ _ _ _ _ (y 0) _ (y 1) (fun k => x_block m c t (y 0) k h) (b_block m c t (y 1))

end Cert.KernelIdeal.Linear

end
-- ==== Proof.Reference.lean ====
/-
  WHAT THE REFERENCE COMPUTES: one product of the whole matrices plus the bias repeated over the rows, which is `linear` of
  its arguments.
-/
module

public import proofs.«01_k».proof.Proof.Block
public import proofs.«01_k».proof.Proof.Gen.ReferenceIdeal.Run

@[expose] public section

set_option maxRecDepth 16384

noncomputable section

namespace Cert.ReferenceIdeal.Linear

open Cert.ReferenceIdeal Cert.ReferenceIdeal.Gen Cert.KernelIdeal.Linear
open Idealize.ShloMosaic Idealize.ShloMosaic.TcCoe Idealize.SL.Sem

/-- The reference's value is the layer of its arguments. -/
theorem value_eq (x : Vec Ideal S4096x4096 .f32) (w : Vec Ideal S4096x1024 .f32) (b : Vec Ideal S1024 .f32) :
    addf (F := Ideal) (Host.dotGeneral (φ₁ := .f32) (φ₂ := .f32) dot_S4096x4096_S4096x1024_S4096x1024_1_0_0_1_n_n none x w)
      (broadcastInDim S4096x1024 ![0, 1] bcast_S1x1024_S4096x1024_0_1 (broadcastInDim S1x1024 ![1] bcast_S1024_S1x1024_1 b))
      = linear x w b := by
  funext i
  pointwise [linear]

end Cert.ReferenceIdeal.Linear

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Result
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's run ends with the arguments unchanged and every semaphore counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments the kernel's result array and the reference's are equal: both are the linear layer. -/
theorem algebraic : Cert.algebraic_KernelIdeal_ReferenceIdeal (hKernelIdeal := Cert.KernelIdeal.Gen.facts)
    (hReferenceIdeal := Cert.ReferenceIdeal.Gen.facts) := by
  intro m g m' g' _ heq
  refine ⟨fun c => Cert.KernelIdeal.Linear.linear (m ((c.tc : Thread _ _).loc Cert.KernelIdeal.main_arg0))
    (m ((c.tc : Thread _ _).loc Cert.KernelIdeal.main_arg1)) (m ((c.tc : Thread _ _).loc Cert.KernelIdeal.main_arg2)), ?_, ?_⟩
  · refine (θ_run Cert.KernelIdeal.defs _ _).mono (fun r h c => ?_) (Cert.KernelIdeal.Value.run_blocks m g)
    exact ⟨(h c).1.trans (Cert.KernelIdeal.Linear.final m c), (h c).2⟩
  · refine (θ_run Cert.ReferenceIdeal.defs _ _).mono (fun r h c => ?_) (Cert.ReferenceIdeal.Value.run (F := Ideal) m' g')
    obtain ⟨e0, e1, e2⟩ := heq c
    refine ⟨(h c).1.trans ?_, (h c).2⟩
    rw [e0, e1, e2]
    exact Cert.ReferenceIdeal.Linear.value_eq _ _ _

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
